-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_uniform_thresholds [hPre_uniform_thresholds : Cert.Pre_uniform_thresholds.Facts] (m : (ℓ : Loc Cert.KernelIdeal.nD Cert.KernelIdeal.τ Cert.KernelIdeal.sig) → Buf (Elt Ideal) ℓ) : Prop :=
  ∀ c : Dev Cert.KernelIdeal.nD,
    (Cert.Pre_uniform_thresholds.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_uniform_thresholds [hPre_uniform_thresholds : Cert.Pre_uniform_thresholds.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_uniform_thresholds.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_uniform_thresholds [hKernelIdeal : Cert.KernelIdeal.Facts] [hPre_uniform_thresholds : Cert.Pre_uniform_thresholds.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_uniform_thresholds m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_uniform_thresholds [hReferenceIdeal : Cert.ReferenceIdeal.Facts] [hPre_uniform_thresholds : Cert.Pre_uniform_thresholds.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_uniform_thresholds m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_uniform_thresholds [hKernelIdeal : Cert.KernelIdeal.Facts] [hReferenceIdeal : Cert.ReferenceIdeal.Facts] [hPre_uniform_thresholds : Cert.Pre_uniform_thresholds.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_uniform_thresholds m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_uniform_thresholds : Cert.Pre_uniform_thresholds.Facts),
    quiescent_Kernel (hKernel := hKernel)
    ∧ quiescent_KernelIdeal (hKernelIdeal := hKernelIdeal)
    ∧ quiescent_KernelIdeal_pre_uniform_thresholds (hKernelIdeal := hKernelIdeal) (hPre_uniform_thresholds := hPre_uniform_thresholds)
    ∧ quiescent_ReferenceIdeal (hReferenceIdeal := hReferenceIdeal)
    ∧ quiescent_ReferenceIdeal_pre_uniform_thresholds (hReferenceIdeal := hReferenceIdeal) (hPre_uniform_thresholds := hPre_uniform_thresholds)
    ∧ preserves_Kernel_KernelIdeal
    ∧ algebraic_KernelIdeal_ReferenceIdeal_pre_uniform_thresholds (hKernelIdeal := hKernelIdeal) (hReferenceIdeal := hReferenceIdeal) (hPre_uniform_thresholds := hPre_uniform_thresholds)
-- ==== Pre_uniform_thresholds.lean ====
abbrev S1x2048x768 : Shape := ⟨3, ![1, 2048, 768]⟩
abbrev S127 : Shape := ⟨1, ![127]⟩
abbrev S_ : Shape := ⟨0, ![]⟩
abbrev S1 : Shape := ⟨1, ![1]⟩

class Facts : Prop where
  bcast_S_S127 : S_.BroadcastsInDim S127 (![] : Fin 0 → Fin S127.rank)
  slices_S127_S1_0 : S127.Slices ![0] S1
  shapeCasts_S1_S_ : S1.ShapeCasts S_

variable [Facts]

def fn {F : FTy → Type} [FloatOps F] (main_arg0 : FVec F S1x2048x768 .f32) (main_arg1 : FVec F S127 .f32) : IVec S127 1 :=
  let main_v0 : IVec S127 32 := iotaInDim S127 32 0
  let main_c : IVec S_ 32 := constantI S_ 32 1#32
  let main_v1 : IVec S127 32 := broadcastInDim S127 ![] bcast_S_S127 main_c
  let main_v2 : IVec S127 32 := addi main_v0 main_v1
  let main_v3 : FVec F S127 .f32 := sitofp .f32 main_v2
  let main_v4 : FVec F S1 .f32 := (extractStridedSlice S1 ![0] · slices_S127_S1_0) main_arg1
  let main_v5 : FVec F S_ .f32 := shapeCast S_ main_v4 shapeCasts_S1_S_
  let main_v6 : FVec F S127 .f32 := broadcastInDim S127 ![] bcast_S_S127 main_v5
  let main_v7 : FVec F S127 .f32 := mulf main_v3 main_v6
  let main_v8 : IVec S127 1 := cmpf .oeq main_arg1 main_v7
  let main_v9 : FVec F S1 .f32 := (extractStridedSlice S1 ![0] · slices_S127_S1_0) main_arg1
  let main_v10 : FVec F S_ .f32 := shapeCast S_ main_v9 shapeCasts_S1_S_
  let main_cst : FVec F S_ .f32 := constant S_ .f32 0x43000000#32
  let main_v11 : FVec F S_ .f32 := mulf main_cst main_v10
  let main_cst_0 : FVec F S_ .f32 := constant S_ .f32 0x40FE0000#32
  let main_v12 : IVec S_ 1 := cmpf .ogt main_v11 main_cst_0
  let main_v13 : IVec S127 1 := broadcastInDim S127 ![] bcast_S_S127 main_v12
  let main_v14 : IVec S127 1 := andi main_v8 main_v13
  main_v14
-- ==== Kernel.lean ====
abbrev S1x2048x768 : Shape := ⟨3, ![1, 2048, 768]⟩
abbrev S127 : Shape := ⟨1, ![127]⟩
abbrev S1572864 : Shape := ⟨1, ![1572864]⟩
abbrev S49152 : Shape := ⟨1, ![49152]⟩
abbrev S16 : Shape := ⟨1, ![16]⟩
abbrev S_ : Shape := ⟨0, ![]⟩

abbrev nBuf : Table → Nat
  | .hbm => 5
  | .local .scVector .vmem => 2
  | _ => 0

abbrev bufTy : (tb : Table) → Fin (nBuf tb) → BufTy
  | .hbm, ⟨0, _⟩ => ⟨S1x2048x768, .f32⟩
  | .hbm, ⟨1, _⟩ => ⟨S127, .f32⟩
  | .hbm, ⟨2, _⟩ => ⟨S1572864, .f32⟩
  | .hbm, ⟨3, _⟩ => ⟨S1572864, .f32⟩
  | .hbm, ⟨4, _⟩ => ⟨S1x2048x768, .f32⟩
  | .local .scVector .vmem, ⟨0, _⟩ => ⟨S49152, .f32⟩
  | .local .scVector .vmem, ⟨1, _⟩ => ⟨S16, .f32⟩
  | _, _ => ⟨S1x2048x768, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v0_scv : Ref sig .scVector := ⟨.hbm, 2, rfl⟩
abbrev main_arg1_scv : Ref sig .scVector := ⟨.hbm, 1, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c49152_i32 : BitVec 32 := 49152#32
  let v2 : BitVec 32 := Scalar.muli v1 c49152_i32
  ![v2.toNat]
@[reducible] def k0_t1_loop : Scf.Loop 32 :=
  let c0_i32_0 : BitVec 32 := 0#32
  let c384_i32 : BitVec 32 := 384#32
  let v10 : BitVec 32 := Scalar.addi c0_i32_0 c384_i32
  let c1_i32_1 : BitVec 32 := 1#32
  ⟨c0_i32_0, v10, c1_i32_1⟩
def k0_off2 (k0_t1 : Fin k0_t1_loop.trips) (c0_i32_3 : BitVec 32) : Fin 1 → Nat :=
  let c0_i32_0 : BitVec 32 := 0#32
  let c1_i32_1 : BitVec 32 := 1#32
  let arg7 : BitVec 32 := Scf.iv c0_i32_0 c1_i32_1 k0_t1
  let c128_i32 : BitVec 32 := 128#32
  let v11 : BitVec 32 := Scalar.muli arg7 c128_i32
  let v12 : BitVec 32 := Scalar.addi v11 c0_i32_3
  let v13 : Index := Scalar.indexCast v12
  ![v13.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x2048x768 : Shape := ⟨3, ![1, 2048, 768]⟩
abbrev S127 : Shape := ⟨1, ![127]⟩
abbrev S_ : Shape := ⟨0, ![]⟩
abbrev S1x2048x768x1 : Shape := ⟨4, ![1, 2048, 768, 1]⟩
abbrev S1x1x1x127 : Shape := ⟨4, ![1, 1, 1, 127]⟩
abbrev S1x2048x768x127 : Shape := ⟨4, ![1, 2048, 768, 127]⟩

abbrev nBuf : Space → Nat
  | .hbm => 25
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S127, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S1x2048x768, .f32⟩
  | .hbm, ⟨6, _⟩ => ⟨S1x2048x768, .f32⟩
  | .hbm, ⟨7, _⟩ => ⟨S_, .f32⟩
  | .hbm, ⟨8, _⟩ => ⟨S1x2048x768, .f32⟩
  | .hbm, ⟨9, _⟩ => ⟨S1x2048x768, .f32⟩
  | .hbm, ⟨10, _⟩ => ⟨S1x2048x768x1, .f32⟩
  | .hbm, ⟨11, _⟩ => ⟨S1x1x1x127, .f32⟩
  | .hbm, ⟨12, _⟩ => ⟨S1x2048x768x127, .f32⟩
  | .hbm, ⟨13, _⟩ => ⟨S1x2048x768x127, .f32⟩
  | .hbm, ⟨14, _⟩ => ⟨S1x2048x768x127, .i1⟩
  | .hbm, ⟨15, _⟩ => ⟨S1x2048x768x127, .i32⟩
  | .hbm, ⟨16, _⟩ => ⟨S_, .i32⟩
  | .hbm, ⟨17, _⟩ => ⟨S1x2048x768, .i32⟩
  | .hbm, ⟨18, _⟩ => ⟨S1x2048x768, .f32⟩
  | .hbm, ⟨19, _⟩ => ⟨S_, .f32⟩
  | .hbm, ⟨20, _⟩ => ⟨S1x2048x768, .f32⟩
  | .hbm, ⟨21, _⟩ => ⟨S1x2048x768, .f32⟩
  | .hbm, ⟨22, _⟩ => ⟨S_, .f32⟩
  | .hbm, ⟨23, _⟩ => ⟨S1x2048x768, .f32⟩
  | .hbm, ⟨24, _⟩ => ⟨S1x2048x768, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩

abbrev nD : Nat := 1
abbrev τ : Topo := Topo.v7x

variable {F : FTy → Type} [FloatOps F]
-- ==== Proof.Values.lean ====
/-
  What one task of the converter computes, as functions on numbers and arrays: the code of one element, the sixteen
  scales a task reads off the first sixteen thresholds, and the contents of a task's scratch part-way through its loop.
  Every number format is allowed here; nothing depends on how the operations round.
-/
module

public import proofs.«01_k».proof.Defs
public import proofs.«01_k».proof.Proof.Gen.KernelIdeal
public import proofs.«01_k».proof.Proof.Gen.KernelIdeal.Skeleton
public import Idealize.ShloMosaic.Lib.Pipeline.Value
public import Idealize.ShloMosaic.Lib.ValueIdxRank1
public import Idealize.ShloMosaic.Lib.Writes
public import Idealize.ShloMosaic.Lib.WritesUnit

@[expose] public section

noncomputable section

namespace Cert.Proof.Adc

open Cert.KernelIdeal Cert.KernelIdeal.Gen
open Idealize.ShloMosaic

variable {F : FTy → Type} [FloatOps F]

/-- The code of element `x` under scale `r`: `x` clipped to `[0, 127/16]`, times `r`, cut to a whole number, times `1/128`. -/
def code (r x : F .f32) : F .f32 :=
  FloatOps.mulf
    (FloatOps.sitofp .f32 (FloatOps.fptosi 32 (FloatOps.mulf
      (FloatOps.minimumf (FloatOps.maximumf x (Scalar.ofBits .f32 0x00000000#32)) (Scalar.ofBits .f32 0x40FE0000#32)) r)))
    (Scalar.ofBits .f32 0x3C000000#32)

/-- The lane of position `n`: its remainder modulo sixteen. -/
def lane (n : ℕ) : S16.Idx := fun | 0 => ⟨n % 16, Nat.mod_lt _ (by decide)⟩

/-- The first sixteen thresholds. -/
def firstThresholds (A : S127.Idx → F .f32) : S16.Idx → F .f32 := fun l => A fun | 0 => ⟨(l 0).val, lt_trans (l 0).isLt (by decide)⟩

/-- The scales a task multiplies by: lane `l`'s is `(l + 1)` over threshold `l`. -/
abbrev scales (A : S127.Idx → F .f32) : FVec F S16 .f32 := k0_pay1 (firstThresholds A)

/-- A task's scratch, fetched at contents `C`, after its first `k` trips of 128 elements each. -/
def scratchAt (R : FVec F S16 .f32) (C : S49152.Idx → F .f32) (k : ℕ) (t : S49152.Idx) : F .f32 :=
  if (t 0).val < 128 * k then code (R (lane (t 0).val)) (C t) else C t

/-- The whole result, flat: each element's code under its lane's scale. -/
def codes (R : FVec F S16 .f32) (X : S1572864.Idx → F .f32) (j : S1572864.Idx) : F .f32 := code (R (lane (j 0).val)) (X j)

/-- Before the first trip the scratch is what was fetched. -/
theorem scratchAt_zero (R : FVec F S16 .f32) (C : S49152.Idx → F .f32) : scratchAt R C 0 = C :=
  funext fun t => if_neg (by omega)

/-- After the last trip every element is a code. -/
theorem scratchAt_last (R : FVec F S16 .f32) (C : S49152.Idx → F .f32) (t : S49152.Idx) :
    scratchAt R C 384 t = code (R (lane (t 0).val)) (C t) :=
  if_pos (by have h : (t 0).val < 49152 := (t 0).isLt; omega)

/-! ## The eight stores of a trip -/

/-- What every store of a trip writes: the codes of the sixteen elements it read. -/
def codeVec (R v : FVec F S16 .f32) : FVec F S16 .f32 := fun l => code (R l) (v l)

/-- The first store of a trip writes the codes of what was read; so do the seven below, each for its own group of sixteen. -/
theorem pay2_eq (R v : FVec F S16 .f32) : k0_pay2 R v = codeVec R v := by unfold k0_pay2; simp only [shapeCast_self]; rfl
/-- The second store. -/
theorem pay3_eq (R v : FVec F S16 .f32) : k0_pay3 R v = codeVec R v := by unfold k0_pay3; simp only [shapeCast_self]; rfl
/-- The third store, whose value is computed in two steps. -/
theorem pay45_eq (R v : FVec F S16 .f32) : k0_pay5 (F := F) (k0_pay4 R v) = codeVec R v := by
  unfold k0_pay5 k0_pay4; simp only [shapeCast_self]; rfl
/-- The fourth store. -/
theorem pay6_eq (R v : FVec F S16 .f32) : k0_pay6 R v = codeVec R v := by unfold k0_pay6; simp only [shapeCast_self]; rfl
/-- The fifth store. -/
theorem pay7_eq (R v : FVec F S16 .f32) : k0_pay7 R v = codeVec R v := by unfold k0_pay7; simp only [shapeCast_self]; rfl
/-- The sixth store, whose value is computed in three steps. -/
theorem pay8910_eq (R v : FVec F S16 .f32) : k0_pay10 R (k0_pay8 v) (k0_pay9 (F := F)) = codeVec R v := by
  unfold k0_pay10 k0_pay8 k0_pay9; simp only [shapeCast_self]; rfl
/-- The seventh store. -/
theorem pay11_eq (R v : FVec F S16 .f32) : k0_pay11 R v = codeVec R v := by unfold k0_pay11; simp only [shapeCast_self]; rfl
/-- The eighth store. -/
theorem pay12_eq (R v : FVec F S16 .f32) : k0_pay12 R v = codeVec R v := by unfold k0_pay12; simp only [shapeCast_self]; rfl

end Cert.Proof.Adc

end
-- ==== Proof.Setup.lean ====
/-
  The launch's vocabulary: the program as the launch theorem sees it, the arrays as locations of a device, the chunk of
  49152 elements each of the 32 tasks works on, and what a task is handed and hands back.
-/
module

public import proofs.«01_k».proof.Proof.Values
public import Idealize.ShloMosaic.Lib.SparseCore.Quiescent
public import Idealize.ShloMosaic.Lib.StableHlo.Run
public import Idealize.ShloMosaic.Lib.Pipeline.Kit
public import Idealize.ShloMosaic.Lib.ShareLeaves
public import Idealize.ShloMosaic.Lib.Tactic

@[expose] public section

noncomputable section

namespace Cert.Proof.Adc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.ShareLeaves (leaf pointsTo_leaves)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

/-- The labels of the program's loops and calls. -/
abbrev ΛP : Labels := Pipeline.Sig Λ₀ (Fin 0) fun p => (pcfgs (F := F) p).Adm
/-- The configuration of the SparseCore launch: one call. -/
abbrev K : SparseCore.Cfg τ sig (ΛP (F := F)) 1 := sc (F := F)
/-- The bodies that the program's labels stand for. -/
abbrev D [FloatOps F] : Defs nD τ sig (Elt F) (ΛP (F := F)) := Pipeline.defs pcfgs defs₀
/-- No loop of the kernel needs a variant of its own: all of them count. -/
abbrev 𝒱₀ : Variants := Variants.none
/-- The same for the whole program. -/
abbrev 𝒱 : Variants := 𝒱₀.lift
/-- The variant that each task starts from. -/
abbrev v₀ : 𝒱.V := Sum.inl none

/-- The call runs on two SparseCores. -/
theorem cores_eq : (K (F := F)).nCore 0 = 2 := rfl
/-- Each SparseCore runs the call on sixteen subcores. -/
theorem subs_eq : (K (F := F)).nSub 0 = 16 := rfl

/-- The launch's side conditions on its semaphores and shared buffers. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The handshakes' rounds and the counters of the transfers. -/
abbrev UU : Type := UH × Counters

local notation "𝕄" => MT nD τ sig (HIx 1) (Elt F) ℕ UU ℕ

/-- The handshakes' part of the resources. -/
abbrev EH : Emb UH (MT nD τ sig (HIx 1) (Elt F) ℕ UU ℕ) := embL

/-! ## The arrays and the chunks -/

/-- The input, as a location of device `d`; then the other four arrays. -/
abbrev argLoc (d : Dev nD) : Loc nD τ sig := (SparseCore.T d).loc main_arg0
/-- The thresholds. -/
abbrev adcLoc (d : Dev nD) : Loc nD τ sig := (SparseCore.T d).loc main_arg1
/-- The flat input. -/
abbrev inLoc (d : Dev nD) : Loc nD τ sig := (SparseCore.T d).loc main_v0
/-- The flat result. -/
abbrev outLoc (d : Dev nD) : Loc nD τ sig := (SparseCore.T d).loc main_v1
/-- The result. -/
abbrev resLoc (d : Dev nD) : Loc nD τ sig := (SparseCore.T d).loc main_v2

/-- The flat input, as a task names it; then the other arrays and the two scratch buffers. -/
abbrev inV := (Memref.whole main_v0_scv : Memref sig .scVector .hbm S1572864 .f32)
/-- The thresholds. -/
abbrev adcV := (Memref.whole main_arg1_scv : Memref sig .scVector .hbm S127 .f32)
/-- The flat result. -/
abbrev outV := (Memref.whole main_v1_scv : Memref sig .scVector .hbm S1572864 .f32)
/-- The scratch that the chunk is fetched into. -/
abbrev bufV := (Memref.whole cc0_scratch0 : Memref sig .scVector .vmem S49152 .f32)
/-- The scratch that the thresholds are fetched into. -/
abbrev thrV := (Memref.whole cc0_scratch1 : Memref sig .scVector .vmem S16 .f32)

/-- A task's place in the grid: its SparseCore, then its subcore. -/
def place (c : Fin 2) (i : Fin 16) : grid0.Coords :=
  fun | 0 => c | 1 => i | ⟨_ + 2, h⟩ => absurd h (Nat.not_lt.2 (Nat.le_add_left _ _))

/-- The chunk of the flat arrays that the task at `L` works on. -/
abbrev chunk (L : grid0.Coords) : Rect S1572864 := Rect.unit (s := S1572864) (k0_off1 L) S49152.size (k0_off1_inb L)
/-- The elements of that chunk. -/
def chunkSet (L : grid0.Coords) : Finset S1572864.Idx := (chunk L).set

/-- A position lies in a chunk when it lies in the chunk's 49152 positions. -/
theorem mem_chunkSet (L : grid0.Coords) (j : S1572864.Idx) :
    j ∈ chunkSet L ↔ 98304 * (L 1).val + 49152 * (L 0).val ≤ (j 0).val ∧ (j 0).val < 98304 * (L 1).val + 49152 * (L 0).val + 49152 := by
  unfold chunkSet chunk
  rw [Rect.mem_set_unit, k0_off1_eq]
  exact Fin.forall_fin_one

/-- Two tasks' chunks share nothing. -/
theorem chunks_disjoint {c c' : Fin 2} {i i' : Fin 16} (h : c ≠ c' ∨ i ≠ i') : Disjoint (chunkSet (place c i)) (chunkSet (place c' i')) := by
  rw [Finset.disjoint_left]
  intro j hj hj'
  rw [mem_chunkSet] at hj hj'
  have e1 : (place c i 1).val = i.val := rfl
  have e0 : (place c i 0).val = c.val := rfl
  have e1' : (place c' i' 1).val = i'.val := rfl
  have e0' : (place c' i' 0).val = c'.val := rfl
  rw [e1, e0] at hj
  rw [e1', e0'] at hj'
  have hc := c.isLt
  have hc' := c'.isLt
  rcases h with h | h
  · exact h (Fin.ext (by omega))
  · exact h (Fin.ext (by omega))

/-- The sixteen chunks of SparseCore `c`. -/
def coreSet (c : Fin 2) : Finset S1572864.Idx := Finset.univ.biUnion fun i : Fin 16 => chunkSet (place c i)

/-- The two SparseCores' halves share nothing. -/
theorem cores_disjoint {c c' : Fin 2} (h : c ≠ c') : Disjoint (coreSet c) (coreSet c') := by
  unfold coreSet
  rw [Finset.disjoint_biUnion_left]
  intro i _
  rw [Finset.disjoint_biUnion_right]
  exact fun i' _ => chunks_disjoint (.inl h)

/-- Every position lies in some task's chunk. -/
theorem cores_cover : (Finset.univ.biUnion coreSet : Finset S1572864.Idx) = Finset.univ := by
  ext j
  simp only [coreSet, Finset.mem_biUnion, Finset.mem_univ, true_and, iff_true, mem_chunkSet]
  have hj : (j 0).val < 1572864 := (j 0).isLt
  refine ⟨⟨(j 0).val / 49152 % 2, by omega⟩, ⟨(j 0).val / 98304, by omega⟩, ?_⟩
  show 98304 * ((j 0).val / 98304) + 49152 * ((j 0).val / 49152 % 2) ≤ (j 0).val
    ∧ (j 0).val < 98304 * ((j 0).val / 98304) + 49152 * ((j 0).val / 49152 % 2) + 49152
  omega

/-- A flat array whole is its tasks' chunks: the flat input's. -/
theorem in_chunks (d : Dev nD) (f : Buf (Elt F) (inLoc d)) :
    (inLoc d ↦{fullShare} f : sProp 𝕄)
      = bigSep Finset.univ fun c : Fin 2 => bigSep Finset.univ fun i : Fin 16 => inLoc d ↦[chunkSet (place c i)]{fullShare} f := by
  have h := pointsTo_biUnion (Ix := HIx 1) (Name := ℕ) (U := UU) (Lvl := ℕ) (q := fullShare) (f := f) Finset.univ (ℓ := inLoc d) coreSet
    fun c _ c' _ h => cores_disjoint h
  rw [cores_cover] at h
  refine h.trans (bigSep_congr fun c _ => ?_)
  exact pointsTo_biUnion Finset.univ (ℓ := inLoc d) (fun i : Fin 16 => chunkSet (place c i)) fun i _ i' _ h => chunks_disjoint (.inr h)

/-- The flat result's. -/
theorem out_chunks (d : Dev nD) (f : Buf (Elt F) (outLoc d)) :
    (outLoc d ↦{fullShare} f : sProp 𝕄)
      = bigSep Finset.univ fun c : Fin 2 => bigSep Finset.univ fun i : Fin 16 => outLoc d ↦[chunkSet (place c i)]{fullShare} f := by
  have h := pointsTo_biUnion (Ix := HIx 1) (Name := ℕ) (U := UU) (Lvl := ℕ) (q := fullShare) (f := f) Finset.univ (ℓ := outLoc d) coreSet
    fun c _ c' _ h => cores_disjoint h
  rw [cores_cover] at h
  refine h.trans (bigSep_congr fun c _ => ?_)
  exact pointsTo_biUnion Finset.univ (ℓ := outLoc d) (fun i : Fin 16 => chunkSet (place c i)) fun i _ i' _ h => chunks_disjoint (.inr h)

/-- The share of the thresholds that task `i` of SparseCore `c` reads them under. -/
def readShare (c : Fin 2) (i : Fin 16) : PosShare TreeShare := leaf 4 (leaf 1 fullShare c) i

/-- The thresholds whole are the tasks' read shares of them. -/
theorem adc_shares (d : Dev nD) (f : Buf (Elt F) (adcLoc d)) :
    (adcLoc d ↦{fullShare} f : sProp 𝕄)
      = bigSep Finset.univ fun c : Fin 2 => bigSep Finset.univ fun i : Fin 16 => adcLoc d ↦{readShare c i} f := by
  refine (pointsTo_leaves Finset.univ f 1 fullShare).trans (bigSep_congr fun c _ => ?_)
  exact pointsTo_leaves Finset.univ f 4 _

/-! ## What a task is handed and hands back -/

variable (X : (d : Dev nD) → Buf (Elt F) (inLoc d)) (A : (d : Dev nD) → Buf (Elt F) (adcLoc d))

/-- A task's resources with the flat result at `o`: its chunk of the flat input, its chunk of the flat result and its read
    share of the thresholds. -/
def piece (o : (d : Dev nD) → Buf (Elt F) (outLoc d)) (d : Dev nD) (c : Fin 2) (i : Fin 16) : sProp 𝕄 :=
  iprop((inLoc d ↦[chunkSet (place c i)]{fullShare} X d) ∗ (outLoc d ↦[chunkSet (place c i)]{fullShare} o d) ∗ adcLoc d ↦{readShare c i} A d)

/-- What a task is handed may be passed from thread to thread. -/
instance piece_storable (o : (d : Dev nD) → Buf (Elt F) (outLoc d)) (d : Dev nD) (c : Fin 2) (i : Fin 16) :
    BI.Storable (upEmb : UEmb _ 𝕄) (piece X A o d c i) := by
  unfold piece; infer_instance

/-- A SparseCore's: its tasks'. -/
def corePiece (o : (d : Dev nD) → Buf (Elt F) (outLoc d)) (d : Dev nD) (c : Fin 2) : sProp 𝕄 :=
  bigSep Finset.univ fun i : Fin 16 => piece X A o d c i

/-- What a SparseCore is handed may be passed from thread to thread. -/
instance corePiece_storable (o : (d : Dev nD) → Buf (Elt F) (outLoc d)) (d : Dev nD) (c : Fin 2) :
    BI.Storable (upEmb : UEmb _ 𝕄) (corePiece X A o d c) := by
  unfold corePiece; infer_instance

/-- The three arrays whole are the two SparseCores' pieces. -/
theorem pieces_eq (o : (d : Dev nD) → Buf (Elt F) (outLoc d)) (d : Dev nD) :
    (bigSep Finset.univ fun c : Fin 2 => corePiece X A o d c)
      = iprop((inLoc d ↦{fullShare} X d) ∗ (outLoc d ↦{fullShare} o d) ∗ adcLoc d ↦{fullShare} A d) := by
  unfold corePiece piece
  rw [in_chunks, out_chunks, adc_shares, ← bigSep_sep', ← bigSep_sep']
  refine bigSep_congr fun c _ => ?_
  rw [bigSep_sep', bigSep_sep']

variable [FloatOps F]

/-- The flat result once every task is done. -/
def done (d : Dev nD) : Buf (Elt F) (outLoc d) := codes (scales (A d)) (X d)

/-- The one call's payloads: the flat result handed over at `o` and taken back at its codes. -/
def P (o : (d : Dev nD) → Buf (Elt F) (outLoc d)) : (K (F := F)).Pay (nD := nD) (Val := Elt F) (Name := ℕ) (U := UU) where
  st := fun q d c => match q with | 0 => corePiece X A o d (Fin.cast cores_eq c)
  dn := fun q d c => match q with | 0 => corePiece X A (done X A) d (Fin.cast cores_eq c)
  go := fun q d c i => match q with | 0 => piece X A o d (Fin.cast cores_eq c) (Fin.cast subs_eq i)
  td := fun q d c i => match q with | 0 => piece X A (done X A) d (Fin.cast cores_eq c) (Fin.cast subs_eq i)
  x := fun _ _ => iprop(emp)

/-- All that the handshakes carry may be passed from thread to thread. -/
instance P_storable (o : (d : Dev nD) → Buf (Elt F) (outLoc d)) : (P X A o).IsStorable where
  st q d c := match q with | 0 => corePiece_storable X A o d (Fin.cast cores_eq c)
  dn q d c := match q with | 0 => corePiece_storable X A (done X A) d (Fin.cast cores_eq c)
  go q d c i := match q with | 0 => piece_storable X A o d (Fin.cast cores_eq c) (Fin.cast subs_eq i)
  td q d c i := match q with | 0 => piece_storable X A (done X A) d (Fin.cast cores_eq c) (Fin.cast subs_eq i)

/-- A SparseCore's resources are its tasks', before and after. -/
theorem vecSplit (o : (d : Dev nD) → Buf (Elt F) (outLoc d)) : (K (F := F)).VecSplit' (P X A o) 0 := by
  intro d c
  show corePiece X A o d (Fin.cast cores_eq c) ⊢ |={Set.univ}=> iprop(
    (bigSep Finset.univ fun i : Fin 16 => piece X A o d (Fin.cast cores_eq c) i)
      ∗ ((bigSep Finset.univ fun i : Fin 16 => piece X A (done X A) d (Fin.cast cores_eq c) i) -∗ corePiece X A (done X A) d (Fin.cast cores_eq c)))
  unfold corePiece
  iintro H; imodintro
  isplitl [H]; · iexact H
  iintro H; iexact H

end Cert.Proof.Adc

end
-- ==== Proof.Tile.lean ====
/-
  One task, run on its vector subcore: it fetches the sixteen thresholds and its chunk of the flat input, codes the chunk
  in place sixteen elements at a time, and writes it out to its chunk of the flat result.
-/
module

public import proofs.«01_k».proof.Proof.Setup

@[expose] public section

noncomputable section

namespace Cert.Proof.Adc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (L : grid0.Coords)

/-- The SparseCore of the task at `L`. -/
abbrev cV : Fin τ.nSC := (L 0).castLE hcore0
/-- The subcore of the task at `L`. -/
abbrev jV : Fin τ.nSub := (L 1).castLE hsub0
/-- The thread of the task at `L`. -/
abbrev thr : Thread nD τ := V d (cV L) (jV L)

/-- The task's chunk of the flat input, as the body spells it. -/
abbrev inK : Memref sig .scVector .hbm S49152 .f32 := (inV).slice (chunk L) (fun _ => rfl)
/-- The task's chunk of the flat result. -/
abbrev outK : Memref sig .scVector .hbm S49152 .f32 := (outV).slice (chunk L) (fun _ => rfl)

/-- The chunk of the flat input has the chunk's elements. -/
theorem set_inK : (inK L).view.set = chunkSet L := by
  show ((View.whole (main_v0_scv : Ref sig .scVector)).slice (chunk L)).set = _
  rw [View.set_slice]; exact Finset.map_refl
/-- The chunk of the flat result has the chunk's elements. -/
theorem set_outK : (outK L).view.set = chunkSet L := by
  show ((View.whole (main_v1_scv : Ref sig .scVector)).slice (chunk L)).set = _
  rw [View.set_slice]; exact Finset.map_refl

/-- The chunk of the flat input, held as the task names it and as the device does. -/
theorem pts_inK (f : Buf (Elt F) (inLoc d)) :
    ((inK L).view.loc (thr d L) ↦[(inK L).view.set]{fullShare} f : sProp 𝕄) = inLoc d ↦[chunkSet L]{fullShare} f := by
  rw [set_inK]
/-- The chunk of the flat result, held as the task names it and as the device does. -/
theorem pts_outK (f : Buf (Elt F) (outLoc d)) :
    ((outK L).view.loc (thr d L) ↦[(outK L).view.set]{fullShare} f : sProp 𝕄) = outLoc d ↦[chunkSet L]{fullShare} f := by
  rw [set_outK]
/-- A share of the thresholds, held as the task names them and as the device does. -/
theorem pts_adc (q : PosShare TreeShare) (f : Buf (Elt F) (adcLoc d)) :
    ((adcV).view.loc (thr d L) ↦{q} f : sProp 𝕄) = adcLoc d ↦{q} f := rfl
/-- The chunk's scratch, held as the task names it and by its location. -/
theorem pts_buf (f : Buf (Elt F) ((thr d L).loc cc0_scratch0)) :
    ((bufV).view.loc (thr d L) ↦{fullShare} f : sProp 𝕄) = (thr d L).loc cc0_scratch0 ↦{fullShare} f := rfl
/-- The thresholds' scratch, held as the task names it and by its location. -/
theorem pts_thr (f : Buf (Elt F) ((thr d L).loc cc0_scratch1)) :
    ((thrV).view.loc (thr d L) ↦{fullShare} f : sProp 𝕄) = (thr d L).loc cc0_scratch1 ↦{fullShare} f := rfl

/-- The semaphore cell of the copy of the thresholds. -/
abbrev cell0 : GSem nD τ sig := (thr d L, .dma cc0_scoped0.sem)
/-- The semaphore cell of the copy of the chunk into the scratch. -/
abbrev cell1 : GSem nD τ sig := (thr d L, .dma cc0_scoped1.sem)
/-- The semaphore cell of the copy of the chunk out to the result. -/
abbrev cell2 : GSem nD τ sig := (thr d L, .dma cc0_scoped2.sem)

/-- The task's own semaphores: those three, and the rest. -/
theorem ownSems0_thr :
    (ownSems0 (thr d L) : sProp 𝕄)
      = iprop(semVal (cell0 d L) 0 ∗ semVal (cell1 d L) 0 ∗ semVal (cell2 d L) 0
          ∗ bigSep ((((ownCells (thr d L)).erase (cell0 d L)).erase (cell1 d L)).erase (cell2 d L)) fun g => semVal g 0) := by
  unfold SparseCore.Cfg.ownSems0
  rw [SparseCore.bigSep_erase' ((mem_ownCells (g := cell0 d L)).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d L)).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d L)).mpr ⟨rfl, by show (SemLoc.dma cc0_scoped2.sem : SemLoc sig).isScoped .scVector = true; decide⟩⟩⟩)]

/-- The task's own buffers: its two scratches, each at some contents, and the rest. -/
theorem ownBufs_thr :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

variable [FloatOps F]
variable (X : (d : Dev nD) → Buf (Elt F) (inLoc d)) (A : (d : Dev nD) → Buf (Elt F) (adcLoc d)) (o : (d : Dev nD) → Buf (Elt F) (outLoc d))

/-- The loop's invariant: the scratch, fetched at `C`, with the first `k` trips' elements coded. -/
def inv (R : FVec F S16 .f32) (C : S49152.Idx → F .f32) (k : ℕ) (_ : Unit) : sProp 𝕄 :=
  iprop((bufV).view.loc (thr d L) ↦{fullShare} scratchAt R C k)

/-- The sixteen positions of the scratch that store `r` of trip `k` writes, and reads before. -/
abbrev slot (k : Fin k0_t1_loop.trips) (r : Fin 8) : Rect S49152 :=
  Rect.unit (s := S49152) (k0_off2 k (BitVec.ofNat 32 (16 * r.val))) S16.size (k0_off2_inb k r)

/-- What store `r` of trip `k` writes: the codes of the elements it read, which the trip had not yet touched. -/
def stored (R : FVec F S16 .f32) (C : S49152.Idx → F .f32) (k : Fin k0_t1_loop.trips) (r : Fin 8) : View.Piece (Elt F) S49152 .f32 :=
  ⟨slot k r, codeVec R (View.readAt (Elt F) (bufV).view (slot k r).toLoadRect (scratchAt R C k.val))⟩

/-- The position that lane `x` of store `r` falls on. -/
theorem slot_emb (k : Fin k0_t1_loop.trips) (r : Fin 8) (x : (slot k r).shape.Idx) :
    ((slot k r).emb x 0).val = 128 * k.val + 16 * r.val + (x 0).val := by
  show k0_off2 k (BitVec.ofNat 32 (16 * r.val)) 0 + 1 * (x 0).val = _
  rw [k0_off2_eq, Nat.one_mul]; rfl

/-- A store leaves what the next trip's invariant says. -/
theorem stored_ok (R : FVec F S16 .f32) (C : S49152.Idx → F .f32) (k : Fin k0_t1_loop.trips) (r : Fin 8) (x : (slot k r).shape.Idx) :
    (stored R C k r).2 x = scratchAt R C (k.val + 1) ((slot k r).emb x) := by
  have hx : (x 0).val < 16 := (x 0).isLt
  have hr := r.isLt
  have he := slot_emb k r x
  have hl : lane ((slot k r).emb x 0).val = x := funext fun | 0 => Fin.ext (by show _ % 16 = _; omega)
  show code (R x) (scratchAt R C k.val ((slot k r).emb x)) = _
  unfold scratchAt
  rw [if_neg (by omega), if_pos (by omega), hl]

/-- The eight stores of a trip take the scratch to the next trip's contents. -/
theorem writes_trip (R : FVec F S16 .f32) (C : S49152.Idx → F .f32) (k : Fin k0_t1_loop.trips) :
    (bufV).view.writes (Elt F) (scratchAt R C k.val)
      [stored R C k 7, stored R C k 6, stored R C k 5, stored R C k 4, stored R C k 3, stored R C k 2, stored R C k 1, stored R C k 0]
      = scratchAt R C (k.val + 1) := by
  have hall : ∀ p ∈ [stored R C k 7, stored R C k 6, stored R C k 5, stored R C k 4, stored R C k 3, stored R C k 2, stored R C k 1, stored R C k 0],
      ∃ r, p = stored R C k r := by simp
  have hmem : ∀ r : Fin 8, stored R C k r ∈ [stored R C k 7, stored R C k 6, stored R C k 5, stored R C k 4, stored R C k 3, stored R C k 2,
      stored R C k 1, stored R C k 0] := by intro r; fin_cases r <;> simp
  have hin : ∀ (r : Fin 8) (y : S49152.Idx), y ∈ (slot k r).set ↔ 128 * k.val + 16 * r.val ≤ (y 0).val ∧ (y 0).val < 128 * k.val + 16 * r.val + 16 := by
    intro r y
    rw [Rect.mem_set_unit, k0_off2_eq]
    exact Fin.forall_fin_one
  generalize [stored R C k 7, stored R C k 6, stored R C k 5, stored R C k 4, stored R C k 3, stored R C k 2, stored R C k 1, stored R C k 0] = Ls at hall hmem
  funext y
  by_cases hy : 128 * k.val ≤ (y 0).val ∧ (y 0).val < 128 * k.val + 128
  · refine View.read_writes_apply_of_pieces (bufV).view _ (scratchAt R C (k.val + 1)) Ls (fun p hp x => ?_) y
      ⟨stored R C k ⟨((y 0).val - 128 * k.val) / 16, by omega⟩, hmem _, (hin _ y).mpr ⟨?_, ?_⟩⟩
    · obtain ⟨r, rfl⟩ := hall p hp
      exact stored_ok R C k r x
    · show 128 * k.val + 16 * (((y 0).val - 128 * k.val) / 16) ≤ _; omega
    · show _ < 128 * k.val + 16 * (((y 0).val - 128 * k.val) / 16) + 16; omega
  · refine (View.read_writes_apply_of_forall_not_mem (bufV).view _ y Ls fun p hp hm => ?_).trans ?_
    · obtain ⟨r, rfl⟩ := hall p hp
      have := (hin r y).mp hm
      have := r.isLt
      omega
    · show scratchAt R C k.val y = scratchAt R C (k.val + 1) y
      unfold scratchAt
      by_cases h : (y 0).val < 128 * k.val
      · rw [if_pos h, if_pos (by omega)]
      · rw [if_neg h, if_neg (by omega)]

/-- One trip: the next 128 elements of the scratch are coded. -/
theorem trip (v7 : Vec F S16 .f32) (C : S49152.Idx → F .f32) (k : Fin k0_t1_loop.trips) (u : Unit) :
    inv d L (k0_pay1 v7) C k.val u
      ⊢ wp frame (wpE (defs₀ (F := F)) 𝒱₀ (thr d L) none) Set.univ
          (k0_t1_body L inV (Memref.isWhole_whole _) adcV (Memref.isWhole_whole _) outV (Memref.isWhole_whole _)
            bufV (Memref.isWhole_whole _) thrV (Memref.isWhole_whole _) cc0_scoped0 cc0_scoped1 cc0_scoped2 v7 k u)
          (inv d L (k0_pay1 v7) C (k.val + 1)) := by
  unfold inv
  iintro Hbuf
  sl_unfold [k0_t1_body]
  sl_exec
  sl_step
  sl_unfold_run_names
  have e := writes_trip (k0_pay1 v7) C k
  unfold slot at e
  rw [← e]
  simp only [pay2_eq, pay3_eq, pay45_eq, pay6_eq, pay7_eq, pay8910_eq, pay11_eq, pay12_eq]
  iexact Hbuf

/-- The chunk starts at a multiple of sixteen: an element has the same lane in the chunk as in the flat array. -/
theorem lane_chunk (t : S49152.Idx) : lane ((chunk L).emb t 0).val = lane (t 0).val := by
  have e : ((chunk L).emb t 0).val = 98304 * (L 1).val + 49152 * (L 0).val + (t 0).val := by
    show k0_off1 L 0 + 1 * (t 0).val = _
    rw [k0_off1_eq, Nat.one_mul]; rfl
  rw [e]
  exact funext fun | 0 => Fin.ext (by show _ % 16 = _ % 16; omega)

/-- The thresholds read back from the scratch they were fetched to are the first sixteen. -/
theorem read_thr (ft : S16.Idx → F .f32) (B : S127.Idx → F .f32) :
    View.readAt (Elt F) (thrV).view (Rect.unit (s := S16) ![0] S16.size inb_S16_S16_0).toLoadRect
      (View.write (Elt F) (thrV).view ft (ReadAs.same.apply
        (View.read (Elt F) ((adcV).slice (Rect.unit (s := S127) ![0] S16.size inb_S127_S16_0) (fun _ => rfl)).view B)) Finset.univ)
      = firstThresholds B := by
  simp only [Memref.view_whole, View.write_whole_univ]
  funext l
  show B _ = B _
  refine congrArg B (funext fun | 0 => Fin.ext ?_)
  show 0 + 1 * (0 + 1 * (l 0).val) = (l 0).val
  omega

/-- What the task leaves in its chunk of the flat result: the codes of its chunk of the flat input. -/
theorem left_chunk (R : FVec F S16 .f32) (Y : S1572864.Idx → F .f32) (fo : S1572864.Idx → F .f32) (fb : S49152.Idx → F .f32) :
    ∀ j ∈ (outK L).view.set,
      (outK L).view.writes (Elt F) fo [⟨Rect.whole S49152, ReadAs.same.apply (View.read (Elt F) (bufV).view (scratchAt R
        (View.write (Elt F) (bufV).view fb (ReadAs.same.apply (View.read (Elt F) (inK L).view Y)) Finset.univ) 384))⟩] j
        = codes R Y j := by
  intro j hj
  obtain ⟨t, -, rfl⟩ := Finset.mem_map.mp hj
  have h := View.read_writes_cons_hit (outK L).view fo (Rect.whole S49152) (ReadAs.same.apply (View.read (Elt F) (bufV).view (scratchAt R
        (View.write (Elt F) (bufV).view fb (ReadAs.same.apply (View.read (Elt F) (inK L).view Y)) Finset.univ) 384))) [] t t (Rect.emb_whole_apply _ _)
  rw [View.read_apply, cast_eq] at h
  rw [h]
  simp only [Memref.view_whole, View.write_whole_univ]
  show scratchAt R _ 384 t = code (R (lane ((chunk L).emb t 0).val)) (Y ((chunk L).emb t))
  rw [scratchAt_last, lane_chunk]
  rfl

/-- The loop makes 384 trips. -/
theorem trips_eq : Scf.trips k0_t1_loop.lb k0_t1_loop.ub k0_t1_loop.st = 384 := by decide +kernel

/-- What the task holds of the arrays, the flat result at `o`. -/
abbrev taskPts (q : PosShare TreeShare) : sProp 𝕄 :=
  iprop((inLoc d ↦[chunkSet L]{fullShare} X d) ∗ (outLoc d ↦[chunkSet L]{fullShare} o d) ∗ adcLoc d ↦{q} A d)

/-- The task: from its pieces of the arrays, the flat result at `o`, to the same with its chunk of the flat result coded. -/
theorem tile_body (q : PosShare TreeShare) (hF : (K (F := F)).Facts) (O : CellTallies nD τ sig (HIx 1)) (W : Waits sig (HIx 1)) (hO : ∀ g, O g none = 0) :
    iprop(levAts (K (F := F)).L (K (F := F)).lev ∗ emp
        ∗ taskPts d L X A o q
        ∗ scopedBufs (thr d L) ∗ scopedSems0 (thr d L) ∗ owes (thr d L) O W)
      ⊢ wp frame (wpE (defs₀ (F := F)) 𝒱₀ (thr d L) none) Set.univ
          (cc0__body L inV (Memref.isWhole_whole _) adcV (Memref.isWhole_whole _) outV (Memref.isWhole_whole _)
            bufV (Memref.isWhole_whole _) thrV (Memref.isWhole_whole _) cc0_scoped0 cc0_scoped1 cc0_scoped2)
          fun _ => iprop(taskPts d L X A (done X A) q
            ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_thr, ownBufs_thr]
  iintro ⟨#Hlv, -, ⟨Hin, Hout, Hadc⟩, ⟨⟨%fb, Hbuf⟩, ⟨%ft, Hthr⟩, Hbufs⟩, ⟨Hs0, Hs1, Hs2, Hsems⟩, HO⟩
  ihave Hmw := (show levAts (K (F := F)).L (K (F := F)).lev ⊢ Transfers.MayWaits (thr d L) (default : HIx 1) O from
    (K (F := F)).mayWaits_none (thr := thr d L) hO) $$ Hlv
  ihave Hin := (Entails.of_eq (pts_inK (F := F) d L _).symm) $$ Hin
  ihave Hout := (Entails.of_eq (pts_outK (F := F) d L _).symm) $$ Hout
  ihave Hadc := (Entails.of_eq (pts_adc (F := F) d L _ _).symm) $$ Hadc
  ihave Hbuf := (Entails.of_eq (pts_buf (F := F) d L _).symm) $$ Hbuf
  ihave Hthr := (Entails.of_eq (pts_thr (F := F) d L _).symm) $$ Hthr
  sl_unfold [cc0__body]
  sl_exec (disch := exact View.amount_pos _ _ (show 0 < S49152.numel by decide))
  sl_unfold_run_names
  generalize hv : View.readAt (Elt F) (thrV).view _ _ = v7
  obtain rfl : v7 = firstThresholds (A d) := hv.symm.trans (read_thr ft (A d))
  generalize hC : View.write (Elt F) (bufV).view fb _ Finset.univ = C
  sl_for (inv d L (scales (A d)) C) $$ [Hbuf]
  case region =>
    intro k u
    exact trip d L (firstThresholds (A d)) C k u
  · unfold inv
    rw [scratchAt_zero]
    iexact Hbuf
  iintro %_ HI
  unfold inv
  rw [trips_eq]
  sl_exec (disch := exact View.amount_pos _ _ (show 0 < S49152.numel by decide))
  sl_step
  sl_unfold_run_names
  subst hC
  isplitl [Hin Hout Hadc]
  · isplitl [Hin]; · iapply (Entails.of_eq (pts_inK (F := F) d L _)); iexact Hin
    isplitl [Hout]
    · iapply (Entails.of_eq (pts_outK (F := F) d L _))
      iapply (Entails.of_eq (pointsTo_congr (left_chunk L (scales (A d)) (X d) (o d) fb)))
      iexact Hout
    iexact Hadc
  isplitl [HI Hthr Hbufs]
  · isplitl [HI]; · iexists _; iexact HI
    isplitl [Hthr]; · iexists _; iexact Hthr
    iexact Hbufs
  isplitl [Hs0 Hs1 Hs2 Hsems]
  · isplitl [Hs0]; · iexact Hs0
    isplitl [Hs1]; · iexact Hs1
    isplitl [Hs2]; · iexact Hs2
    iexact Hsems
  iexists _; isplitr
  swap; · iexact HO
  -- a wait is recorded at index `none` or at the one call's
  ipureintro; intro p _
  rcases p.2 with _ | q
  · exact .inr (.inl rfl)
  · exact .inr (.inr (congrArg some (Subsingleton.elim q 0)))

end Cert.Proof.Adc

end
-- ==== Proof.Launch.lean ====
/-
  The whole program's run. The TensorCore lays the input out flat, hands the flat arrays to the 32 tasks and takes them
  back coded, and lays the result out again. At the end the two arguments are unchanged, the result holds the codes, and
  every semaphore counter is back at zero.
-/
module

public import proofs.«01_k».proof.Proof.Tile
public import Idealize.ShloMosaic.Lib.StableHlo.Run

@[expose] public section

noncomputable section

namespace Cert.Proof.Adc

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg)

/-! ## The obligation of the call's tasks -/

section Obligation

variable [FloatOps F]
variable (X : (d : Dev nD) → Buf (Elt F) (inLoc d)) (A : (d : Dev nD) → Buf (Elt F) (adcLoc d)) (o : (d : Dev nD) → Buf (Elt F) (outLoc d))

/-- A grid point from its two coordinates. -/
def coordsV (c : Fin (grid0.bound 0)) (s : Fin (grid0.bound 1)) : grid0.Coords :=
  fun | 0 => c | 1 => s | ⟨_ + 2, h⟩ => absurd h (Nat.not_lt.2 (Nat.le_add_left _ _))

/-- The body a vector subcore runs. -/
theorem defs₀_vector (c : Fin τ.nSC) (s : Fin τ.nSub) :
    defs₀ (F := F) (.scVector c s) 0 ()
      = SparseCore.onTile hcore0 hsub0 (fun c s => cc0__body (coordsV c s)
          inV (Memref.isWhole_whole _) adcV (Memref.isWhole_whole _) outV (Memref.isWhole_whole _)
          bufV (Memref.isWhole_whole _) thrV (Memref.isWhole_whole _) cc0_scoped0 cc0_scoped1 cc0_scoped2) ⟨⟩ c s := rfl

/-- Each task runs from what it is handed to what it hands back. -/
theorem tileObl (hF : (K (F := F)).Facts) : (K (F := F)).TileObl (D (F := F)) 𝒱 (P X A o) v₀ 0 := by
  intro d c i O W hO _ _
  simp only [show (P X A o).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) X A o (readShare (Fin.cast cores_eq c) (Fin.cast subs_eq i)) hF O W hO

/-! ## The launch element: the handshakes' rounds, nothing of the kernel's own -/

/-- The element the launch starts from: the handshakes' first round, and no count of any transfer. -/
def u₀ : UU := (initOf (K (F := F)).hsCells (K (F := F)).hsToks, 1)

omit [FloatOps F] in
/-- Any number of empty resources is the empty resource. -/
theorem bigSep_emp' {I : Type} (s : Finset I) : (bigSep s fun _ => iprop(emp)) = (iprop(emp) : sProp 𝕄) := bigSep_emp_const s

/-- The launch element gives the handshakes their tokens; the devices and the threads get nothing besides. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P X A o).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P X A o).x q thr) = bigSep Finset.univ fun _ => iprop(emp) from
    bigSep_congr fun _ _ => bigSep_univ_of_subsingleton (0 : Fin 1), bigSep_emp']
  iempintro

/-- What the call takes: the flat arrays and the thresholds whole. -/
theorem st_eq (d : Dev nD) : (bigSep Finset.univ fun c : Fin ((K (F := F)).nCore 0) => (P X A o).st 0 d c)
    = iprop((inLoc d ↦{fullShare} X d) ∗ (outLoc d ↦{fullShare} o d) ∗ adcLoc d ↦{fullShare} A d) :=
  pieces_eq X A o d
/-- What the call brings back: the flat arrays and the thresholds whole, the flat result coded. -/
theorem dn_eq (d : Dev nD) : (bigSep Finset.univ fun c : Fin ((K (F := F)).nCore 0) => (P X A o).dn 0 d c)
    = iprop((inLoc d ↦{fullShare} X d) ∗ (outLoc d ↦{fullShare} done X A d) ∗ adcLoc d ↦{fullShare} A d) :=
  pieces_eq X A (done X A) d

end Obligation

/-! ## The main program on the TensorCore -/

/-- The input array, as a buffer of the device. -/
abbrev arg' : DevRef τ sig := Proc.devRef .tc (main_arg0 : Ref sig .tc)
/-- The array of thresholds. -/
abbrev adc' : DevRef τ sig := Proc.devRef .tc (main_arg1 : Ref sig .tc)
/-- The flat input. -/
abbrev in' : DevRef τ sig := Proc.devRef .tc (main_v0 : Ref sig .tc)
/-- The flat result. -/
abbrev out' : DevRef τ sig := Proc.devRef .tc (main_v1 : Ref sig .tc)
/-- The result array. -/
abbrev res' : DevRef τ sig := Proc.devRef .tc (main_v2 : Ref sig .tc)
/-- The host's first operation: the input laid out flat. -/
abbrev flatten : HloOp τ sig (Elt F) := StableHlo.reshape main_arg0 main_v0 (rfl : (.f32 : EltTy) = .f32) shapeCasts_S1x2048x768_S1572864
/-- The host's last operation: the flat result laid out in the input's shape. -/
abbrev unflatten : HloOp τ sig (Elt F) := StableHlo.reshape main_v1 main_v2 (rfl : (.f32 : EltTy) = .f32) shapeCasts_S1572864_S1x2048x768

/-- The TensorCore's five arrays. -/
abbrev S5 : Finset (DevRef τ sig) := {arg', adc', in', out', res'}

/-- To hold the five arrays is to hold each of them whole. -/
theorem held_S5 (d : Dev nD) (W : Valuation τ sig (Elt F)) :
    (held (T d) S5 W : sProp 𝕄) = iprop((argLoc d ↦{fullShare} W arg') ∗ (adcLoc d ↦{fullShare} W adc') ∗ (inLoc d ↦{fullShare} W in')
      ∗ (outLoc d ↦{fullShare} W out') ∗ resLoc d ↦{fullShare} W res') := by
  unfold held S5
  rw [SparseCore.bigSep_insert' (by decide), SparseCore.bigSep_insert' (by decide), SparseCore.bigSep_insert' (by decide),
    SparseCore.bigSep_insert' (by decide), bigSep_singleton]

/-- The arrays that live as long as the program are these five. -/
theorem unscopedBufs_eq (d : Dev nD) (W : (b : Ref sig .tc) → Buf (Elt F) ((d.tc : Thread nD τ).loc b)) :
    (unscopedBufs d W : sProp 𝕄) = iprop((argLoc d ↦{fullShare} W main_arg0) ∗ (adcLoc d ↦{fullShare} W main_arg1) ∗ (inLoc d ↦{fullShare} W main_v0)
      ∗ (outLoc d ↦{fullShare} W main_v1) ∗ resLoc d ↦{fullShare} W main_v2) := by
  unfold unscopedBufs
  rw [show (Finset.univ.filter fun b : Ref sig .tc => ¬ b.isScoped) = {main_arg0, main_arg1, main_v0, main_v1, main_v2} by decide,
    SparseCore.bigSep_insert' (by decide), SparseCore.bigSep_insert' (by decide), SparseCore.bigSep_insert' (by decide),
    SparseCore.bigSep_insert' (by decide), bigSep_singleton]

/-- The input laid out flat, as the call finds it. -/
def flat (d : Dev nD) : Buf (Elt F) (inLoc d) := shapeCast S1572864 (m (argLoc d)) shapeCasts_S1x2048x768_S1572864
/-- The thresholds, as the call finds them. -/
def thresholds (d : Dev nD) : Buf (Elt F) (adcLoc d) := m (adcLoc d)

variable [FloatOps F]

/-- The result: the flat codes laid out again. -/
def result (d : Dev nD) : Buf (Elt F) (resLoc d) := shapeCast S1x2048x768 (done (flat m) (thresholds m) d) shapeCasts_S1572864_S1x2048x768

/-- The contents of the arrays at launch. -/
def V0 (d : Dev nD) : Valuation τ sig (Elt F) := fun b => m (d, b)
/-- The contents of the arrays after the call: the flat input laid out, the flat result coded. -/
def V1 (d : Dev nD) : Valuation τ sig (Elt F) := Function.update (Function.update (V0 m d) in' (flat m d)) out' (done (flat m) (thresholds m) d)

/-- At launch the five arrays are held at the launch contents. -/
theorem unscoped_held (d : Dev nD) : (unscopedBufs d (fun b => m ((SparseCore.T d).loc b)) : sProp 𝕄) = held (T d) S5 (V0 m d) := by
  rw [unscopedBufs_eq, held_S5]; rfl

/-- The arrays after the first layout change. -/
theorem held_flatten (d : Dev nD) : (held (T d) S5 ((flatten (F := F)).result (V0 m d)) : sProp 𝕄)
    = iprop((argLoc d ↦{fullShare} m (argLoc d)) ∗ (adcLoc d ↦{fullShare} thresholds m d) ∗ (inLoc d ↦{fullShare} flat m d)
      ∗ (outLoc d ↦{fullShare} m (outLoc d)) ∗ resLoc d ↦{fullShare} m (resLoc d)) := by
  rw [held_S5, (flatten (F := F)).result_of_not_mem (V0 m d) (b := arg') (show arg' ∉ ({in'} : Finset (DevRef τ sig)) by decide),
    (flatten (F := F)).result_of_not_mem (V0 m d) (b := adc') (show adc' ∉ ({in'} : Finset (DevRef τ sig)) by decide),
    (flatten (F := F)).result_of_not_mem (V0 m d) (b := out') (show out' ∉ ({in'} : Finset (DevRef τ sig)) by decide),
    (flatten (F := F)).result_of_not_mem (V0 m d) (b := res') (show res' ∉ ({in'} : Finset (DevRef τ sig)) by decide)]
  have h : (flatten (F := F)).result (V0 m d) in' = flat m d := StableHlo.reshape_result ..
  rw [h]; rfl

/-- The arrays as the call leaves them. -/
theorem held_V1 (d : Dev nD) : (held (T d) S5 (V1 m d) : sProp 𝕄)
    = iprop((argLoc d ↦{fullShare} m (argLoc d)) ∗ (adcLoc d ↦{fullShare} thresholds m d) ∗ (inLoc d ↦{fullShare} flat m d)
      ∗ (outLoc d ↦{fullShare} done (flat m) (thresholds m) d) ∗ resLoc d ↦{fullShare} m (resLoc d)) := by
  rw [held_S5]
  unfold V1
  rw [Function.update_of_ne (show arg' ≠ out' by decide), Function.update_of_ne (show arg' ≠ in' by decide),
    Function.update_of_ne (show adc' ≠ out' by decide), Function.update_of_ne (show adc' ≠ in' by decide),
    Function.update_of_ne (show in' ≠ out' by decide), Function.update_self, Function.update_self,
    Function.update_of_ne (show res' ≠ out' by decide), Function.update_of_ne (show res' ≠ in' by decide)]
  rfl

/-- The arrays after the second layout change. -/
theorem held_unflatten (d : Dev nD) : (held (T d) S5 ((unflatten (F := F)).result (V1 m d)) : sProp 𝕄)
    = iprop((argLoc d ↦{fullShare} m (argLoc d)) ∗ (adcLoc d ↦{fullShare} m (adcLoc d)) ∗ (inLoc d ↦{fullShare} flat m d)
      ∗ (outLoc d ↦{fullShare} done (flat m) (thresholds m) d) ∗ resLoc d ↦{fullShare} result m d) := by
  rw [held_S5, (unflatten (F := F)).result_of_not_mem (V1 m d) (b := arg') (show arg' ∉ ({res'} : Finset (DevRef τ sig)) by decide),
    (unflatten (F := F)).result_of_not_mem (V1 m d) (b := adc') (show adc' ∉ ({res'} : Finset (DevRef τ sig)) by decide),
    (unflatten (F := F)).result_of_not_mem (V1 m d) (b := in') (show in' ∉ ({res'} : Finset (DevRef τ sig)) by decide),
    (unflatten (F := F)).result_of_not_mem (V1 m d) (b := out') (show out' ∉ ({res'} : Finset (DevRef τ sig)) by decide)]
  have h : (unflatten (F := F)).result (V1 m d) res' = result m d := by
    refine (StableHlo.reshape_result ..).trans ?_
    show shapeCast S1x2048x768 (V1 m d out') _ = _
    unfold V1
    rw [Function.update_self]; rfl
  rw [h]
  unfold V1
  rw [Function.update_of_ne (show arg' ≠ out' by decide), Function.update_of_ne (show arg' ≠ in' by decide),
    Function.update_of_ne (show adc' ≠ out' by decide), Function.update_of_ne (show adc' ≠ in' by decide),
    Function.update_of_ne (show in' ≠ out' by decide), Function.update_self, Function.update_self]
  rfl

/-- The first layout change touches none but the five arrays. -/
theorem flatten_sub : (flatten (F := F)).bufs ⊆ S5 := show ({arg', in'} : Finset (DevRef τ sig)) ⊆ S5 by decide
/-- The second layout change touches none but the five arrays. -/
theorem unflatten_sub : (unflatten (F := F)).bufs ⊆ S5 := show ({out', res'} : Finset (DevRef τ sig)) ⊆ S5 by decide

/-- What the main program leaves: the arguments as they were, the result at its codes. -/
abbrev FIN (d : Dev nD) : sProp 𝕄 :=
  iprop((argLoc d ↦{fullShare} m (argLoc d)) ∗ (adcLoc d ↦{fullShare} m (adcLoc d)) ∗ resLoc d ↦{fullShare} result m d)

/-- The call's payloads at this launch memory. -/
abbrev PL : (K (F := F)).Pay (nD := nD) (Val := Elt F) (Name := ℕ) (U := UU) := P (flat m) (thresholds m) fun d => m (outLoc d)

/-- The main program on device `d`: the layout change, the call, the layout change. -/
theorem hmain (κ : GSem nD τ sig → ℕ) (d : Dev nD) :
    iprop((K (F := F)).ctx EH (PL m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := flatten) (S := S5) flatten_sub (V := V0 m d)) $$ [Hb Hheld]
  · isplitl [Hb]; · iexact Hb
    iexact Hheld
  iintro ⟨Hb, Hheld⟩
  rw [wp_ret]; imodintro
  ihave Hh := (Entails.of_eq (held_flatten (F := F) m d)) $$ Hheld
  icases Hh with ⟨Harg, Hadc, Hin, Hout, Hres⟩
  iapply ((K (F := F)).wp_run (D (F := F)) 𝒱 (EH := EH) (P := PL m) κ d 0) $$ [Hst Hin Hout Hadc Harg Hres Hb Hts]
  isplitr; · iexact Hctx
  isplitl [Hst]; · iexact Hst
  isplitl [Hin Hout Hadc]
  · rw [st_eq]
    isplitl [Hin]; · iexact Hin
    isplitl [Hout]; · iexact Hout
    iexact Hadc
  iintro ⟨Hst, Hdn⟩
  ihave Hdn' := (Entails.of_eq (dn_eq (flat m) (thresholds m) (fun d => m (outLoc d)) d)) $$ Hdn
  icases Hdn' with ⟨Hin, Hout, Hadc⟩
  iapply (wp_hlo_within 𝒱 (SparseCore.T d) none Set.univ (op := unflatten) (S := S5) unflatten_sub (V := V1 m d)) $$ [Hb Harg Hadc Hin Hout Hres]
  · isplitl [Hb]; · iexact Hb
    rw [held_V1]
    isplitl [Harg]; · iexact Harg
    isplitl [Hadc]; · iexact Hadc
    isplitl [Hin]; · iexact Hin
    isplitl [Hout]; · iexact Hout
    iexact Hres
  iintro ⟨Hb, Hheld⟩
  ihave Hh := (Entails.of_eq (held_unflatten (F := F) m d)) $$ Hheld
  icases Hh with ⟨Harg, Hadc, -, -, Hres⟩
  rw [wp_ret]; imodintro; imodintro
  isplitl [Hst]; · iexact Hst
  isplitr [Hb Hts]
  · isplitl [Harg]; · iexact Harg
    isplitl [Hadc]; · iexact Hadc
    iexact Hres
  isplitl [Hb] <;> iassumption

/-- What the end state says of device `d`. -/
def fq (d : Dev nD) (s' : Phys nD τ sig (Elt F)) : Prop :=
  s'.mem.mem (argLoc d) = m (argLoc d) ∧ s'.mem.mem (adcLoc d) = m (adcLoc d) ∧ s'.mem.mem (resLoc d) = result m d

/-- Whoever holds what the main program leaves knows what the end state says of the device. -/
theorem hfin (d : Dev nD) (s' : Phys nD τ sig (Elt F)) : iprop(FIN m d ∗ SI s') ⊢ (⌜fq m d s'⌝ : sProp 𝕄) := by
  iintro ⟨⟨Harg, Hadc, Hres⟩, HSI⟩
  ihave H := (persistent_entails_right (SI_pointsTo_agree (st := s') (ℓ := argLoc d) (I := Finset.univ) (q := fullShare) (f := m (argLoc d)))) $$ [HSI Harg]
  · isplitl [HSI] <;> iassumption
  icases H with ⟨%h1, HSI, -⟩
  ihave H := (persistent_entails_right (SI_pointsTo_agree (st := s') (ℓ := adcLoc d) (I := Finset.univ) (q := fullShare) (f := m (adcLoc d)))) $$ [HSI Hadc]
  · isplitl [HSI] <;> iassumption
  icases H with ⟨%h2, HSI, -⟩
  ihave H := (SI_pointsTo_agree (st := s') (ℓ := resLoc d) (I := Finset.univ) (q := fullShare) (f := result m d)) $$ [HSI Hres]
  · isplitl [HSI] <;> iassumption
  icases H with %h3
  ipureintro
  exact ⟨funext fun i => h1 i (Finset.mem_univ i), funext fun i => h2 i (Finset.mem_univ i), funext fun i => h3 i (Finset.mem_univ i)⟩

/-! ## The run -/

/-- The end state: on every device the arguments unchanged and the result at its codes; every counter at zero. -/
def QC : PUnit × MemSt nD τ sig (Elt F) → Prop := fun r =>
  (∀ d : Dev nD, r.2.mem (argLoc d) = m (argLoc d) ∧ r.2.mem (adcLoc d) = m (adcLoc d) ∧ r.2.mem (resLoc d) = result m d) ∧ r.2.sem = fun _ => 0

/-- Every weakly fair execution of the program from launch memory `m` ends so. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PL m) (A := ∅) launchFacts v₀
    (fun q hq => match q with | 0 => nomatch hq)
    (fun q _ => match q with | 0 => tileObl (flat m) (thresholds m) (fun d => m (outLoc d)) launchFacts)
    (fun q _ => match q with | 0 => SparseCore.Cfg.VecSplit.of_plain (vecSplit (flat m) (thresholds m) fun d => m (outLoc d)))
    m ρ main (fun _ => iprop(emp)) (FIN m) (u₀ (F := F)) (sep_elim_left.trans (hu₀ (flat m) (thresholds m) fun d => m (outLoc d))) (hmain m ρ) (fq m) (hfin m)
    (QC m) (fun _ h hz => ⟨h, hz⟩)

end Cert.Proof.Adc

end
-- ==== Proof.KernelRun.lean ====
/-
  The run of the kernel at machine words: its text is the idealized program's, so the run proved of the one, which never
  looked at the instance of the floats, is a run of the other.
-/
module

public import proofs.«01_k».proof.Defs
public import proofs.«01_k».proof.Proof.Launch
public import proofs.«01_k».proof.Proof.Gen.Kernel
public import proofs.«01_k».proof.Proof.Gen.Kernel.Skeleton

@[expose] public section

noncomputable section

namespace Cert.Proof.Adc

open Idealize.ShloMosaic Idealize.SL.Sem

/-- The kernel's frame: it ends with its arguments unchanged and every counter at zero. -/
theorem frame_kernel : Cert.quiescent_Kernel (hKernel := Cert.Kernel.Gen.facts) := fun m g _ =>
  have h := run_main (F := Bits) m g
  (θ_run _ _ _).mono (fun _ h => ⟨fun c => ⟨(h.1 c).1, (h.1 c).2.1⟩, h.2⟩) h

end Cert.Proof.Adc

end
-- ==== Proof.Count.lean ====
/-
  The mathematics of the quantiser, over the reals and the extended reals. The thresholds are the multiples
  `s, 2 s, …, 127 s` of a step `s`, the activation `a` lies in `[0, 127/16]`, and `128 s` lies above `127/16`. Then the
  number of thresholds that `a` reaches is the whole part of `a / s`, which is what the kernel computes at every lane:
  `a` times `k / (k s)`, cut to a whole number.
-/
module

public import Idealize.ShloMosaic.PureOps.Ideal
public import Idealize.ShloMosaic.PureOps.Ideal.Laws

@[expose] public section

noncomputable section

namespace Cert.Proof.Adc

open Idealize.ShloMosaic

/-! ## The constants -/

/-- The upper end of the clip, as a word of the programs, is 127/16. -/
theorem ofBits_top : Ideal.ofBits .f32 0x40FE0000#32 = ((127 / 16 : ℝ) : EReal) := by
  simp [Ideal.ofBits, Ideal.ieee, -EReal.coe_mul]; norm_num
/-- The kernel's output scale is 1/128. -/
theorem ofBits_unit : Ideal.ofBits .f32 0x3C000000#32 = ((1 / 128 : ℝ) : EReal) := by
  simp [Ideal.ofBits, Ideal.ieee, -EReal.coe_mul]; norm_num
/-- The reference's divisor is 16. -/
theorem ofBits_sixteen : Ideal.ofBits .f32 0x41800000#32 = ((16 : ℝ) : EReal) := by
  simp [Ideal.ofBits, Ideal.ieee, -EReal.coe_mul]; norm_num
/-- The reference's factor is 1/8. -/
theorem ofBits_eighth : Ideal.ofBits .f32 0x3E000000#32 = ((1 / 8 : ℝ) : EReal) := by
  simp [Ideal.ofBits, Ideal.ieee, -EReal.coe_mul]; norm_num
/-- The precondition's factor is 128. -/
theorem ofBits_128 : Ideal.ofBits .f32 0x43000000#32 = ((128 : ℝ) : EReal) := by
  simp [Ideal.ofBits, Ideal.ieee, -EReal.coe_mul]; norm_num

/-! ## The activation -/

/-- The activation: `x` clipped to `[0, 127/16]`. -/
def act (x : EReal) : EReal := min (max x 0) ((127 / 16 : ℝ) : EReal)

/-- The activation is a real number of the interval, whatever `x` is. -/
theorem act_real (x : EReal) : ∃ a : ℝ, act x = (a : EReal) ∧ 0 ≤ a ∧ a ≤ 127 / 16 := by
  have h0 : (0 : EReal) ≤ act x := le_min (le_max_right _ _) (by exact_mod_cast (by norm_num : (0 : ℝ) ≤ 127 / 16))
  have h1 : act x ≤ ((127 / 16 : ℝ) : EReal) := min_le_right _ _
  have hb : act x ≠ ⊥ := fun h => by simp [h] at h0
  have ht : act x ≠ ⊤ := fun h => by rw [h] at h1; exact absurd h1 (not_le.2 (EReal.coe_lt_top _))
  refine ⟨(act x).toReal, (EReal.coe_toReal ht hb).symm, EReal.toReal_nonneg h0, ?_⟩
  have := h1
  rw [← EReal.coe_toReal ht hb] at this
  exact_mod_cast this

/-! ## Counting -/

/-- Of the numbers `1, …, 127`, as many are at most `n` as `n` says. -/
theorem card_below (n : ℕ) (h : n ≤ 127) : (Finset.univ.filter fun k : Fin 127 => k.val + 1 ≤ n).card = n := by
  have e : (Finset.univ.filter fun k : Fin 127 => k.val + 1 ≤ n) = (Finset.univ : Finset (Fin n)).map (Fin.castLEEmb h) := by
    ext k
    simp only [Finset.mem_filter, Finset.mem_univ, true_and, Finset.mem_map, Fin.castLEEmb_apply]
    exact ⟨fun hk => ⟨⟨k.val, hk⟩, rfl⟩, fun ⟨i, hi⟩ => by rw [← hi]; exact i.isLt⟩
  rw [e, Finset.card_map, Finset.card_univ, Fintype.card_fin]

/-- The whole part of `a / s` is at most 127. -/
theorem quotient_le {a s : ℝ} (ha : 0 ≤ a) (ha' : a ≤ 127 / 16) (hs : 127 / 16 < 128 * s) : ⌊a / s⌋₊ ≤ 127 := by
  have h0 : 0 < s := by linarith
  have h : a / s < 128 := (div_lt_iff₀ h0).2 (by linarith)
  have := (Nat.floor_lt (div_nonneg ha h0.le)).2 (by exact_mod_cast h : a / s < ((128 : ℕ) : ℝ))
  omega

/-- The thresholds `a` reaches are as many as the whole part of `a / s` says. -/
theorem card_reached {a s : ℝ} (ha : 0 ≤ a) (ha' : a ≤ 127 / 16) (hs : 127 / 16 < 128 * s) :
    (Finset.univ.filter fun k : Fin 127 => ((k.val + 1 : ℕ) : ℝ) * s ≤ a).card = ⌊a / s⌋₊ := by
  have h0 : 0 < s := by linarith
  rw [← card_below _ (quotient_le ha ha' hs)]
  congr 1
  ext k
  simp only [Finset.mem_filter, Finset.mem_univ, true_and]
  rw [Nat.le_floor_iff (div_nonneg ha h0.le), le_div_iff₀ h0]

/-! ## Whole numbers as words -/

/-- A number of at most 127 survives as a 32-bit word read back signed. -/
theorem toInt_small (n : ℕ) (h : n ≤ 127) : (BitVec.ofNat 32 n).toInt = (n : ℤ) := by
  rw [BitVec.toInt_ofNat']
  exact Int.bmod_eq_of_le (by omega) (by omega)

/-- Cutting a real of whole part `n`, at most 127, to an integer word gives `n`. -/
theorem fptosi_small {r : ℝ} (hr : 0 ≤ r) (h : ⌊r⌋₊ ≤ 127) : (Ideal.fptosi 32 (r : EReal)).toInt = (⌊r⌋₊ : ℤ) := by
  have hf : ⌊r⌋ = (⌊r⌋₊ : ℤ) := (Int.natCast_floor_eq_floor hr).symm
  unfold Ideal.fptosi
  rw [Ideal.toIntClamped_coe, if_pos hr, hf]
  have e : max (-((2 ^ (32 - 1) : ℕ) : ℤ)) (min (((2 ^ (32 - 1) : ℕ) : ℤ) - 1) (⌊r⌋₊ : ℤ)) = (⌊r⌋₊ : ℤ) := by
    norm_num
    omega
  rw [e, BitVec.ofInt_natCast, toInt_small _ h]

/-! ## The two ways of coding -/

/-- The thresholds that `a` reaches, of those at `A`. -/
def reached (A : Fin 127 → EReal) (a : EReal) : ℕ := (Finset.univ.filter fun k : Fin 127 => A k ≤ a).card

/-- The scale of lane `l`: `l + 1` over the threshold there. -/
def scale (A : Fin 127 → EReal) (l : Fin 127) : EReal := Ideal.div ((((l.val + 1 : ℕ) : ℝ)) : EReal) (A l)

/-- The thresholds are the multiples of the first, and the 128th multiple is above the activation's range. -/
structure Uniform (A : Fin 127 → EReal) : Prop where
  multiple : ∀ k, A k = (((k.val + 1 : ℕ) : ℝ) : EReal) * A 0
  above : ((127 / 16 : ℝ) : EReal) < ((128 : ℝ) : EReal) * A 0

/-- The step of a uniform table is a real number above `127/2048`, or infinite. -/
theorem Uniform.step {A : Fin 127 → EReal} (h : Uniform A) : A 0 = ⊤ ∨ ∃ s : ℝ, A 0 = (s : EReal) ∧ 127 / 16 < 128 * s := by
  have hab := h.above
  rcases hA : A 0 with _ | _ | s
  · rw [hA] at hab
    change _ < ((128 : ℝ) : EReal) * ⊥ at hab
    rw [EReal.coe_mul_bot_of_pos (by norm_num)] at hab
    exact absurd hab not_lt_bot
  · exact Or.inl rfl
  · refine Or.inr ⟨s, rfl, ?_⟩
    rw [hA] at hab
    change _ < ((128 : ℝ) : EReal) * ((s : ℝ) : EReal) at hab
    rw [← EReal.coe_mul] at hab
    exact_mod_cast hab

/-- THE EQUATION. At every lane, the activation times the lane's scale, cut to a whole number, is the number of
    thresholds the activation reaches. -/
theorem count_eq {A : Fin 127 → EReal} (h : Uniform A) (l : Fin 127) (x : EReal) :
    (Ideal.fptosi 32 (act x * scale A l)).toInt = (reached A (act x) : ℤ) ∧ reached A (act x) ≤ 127 := by
  obtain ⟨a, ha, h0, h1⟩ := act_real x
  rw [ha]
  have hl : (0 : ℝ) < ((l.val + 1 : ℕ) : ℝ) := by positivity
  rcases h.step with ht | ⟨s, hs, hs'⟩
  · have hA : ∀ k, A k = ⊤ := fun k => by
      rw [h.multiple k, ht, EReal.coe_mul_top_of_pos (by positivity)]
    have hr : reached A (a : EReal) = 0 := by
      unfold reached
      rw [Finset.card_eq_zero, Finset.filter_eq_empty_iff]
      intro k _ hk
      rw [hA k] at hk
      exact absurd hk (not_le.2 (EReal.coe_lt_top _))
    have hsc : scale A l = 0 := by
      unfold scale
      rw [hA l, Ideal.div, if_neg (by simp), EReal.inv_top, mul_zero]
    have h00 := fptosi_small (le_refl (0 : ℝ)) (by simp)
    rw [Nat.floor_zero] at h00
    rw [hr, hsc, mul_zero]
    exact ⟨h00, by norm_num⟩
  · have hs0 : 0 < s := by linarith
    have hA : ∀ k, A k = ((((k.val + 1 : ℕ) : ℝ) * s : ℝ) : EReal) := fun k => by
      rw [h.multiple k, hs, ← EReal.coe_mul]
    have hr : reached A (a : EReal) = ⌊a / s⌋₊ := by
      unfold reached
      rw [← card_reached h0 h1 hs']
      congr 1
      ext k
      simp only [Finset.mem_filter, Finset.mem_univ, true_and, hA k]
      exact EReal.coe_le_coe_iff
    have hsc : (a : EReal) * scale A l = ((a / s : ℝ) : EReal) := by
      unfold scale
      rw [hA l, Ideal.div_coe (mul_pos hl hs0).ne', ← EReal.coe_mul, ← EReal.coe_mul]
      congr 1
      field_simp
    rw [hr, hsc]
    exact ⟨fptosi_small (div_nonneg h0 hs0.le) (quotient_le h0 h1 hs'), quotient_le h0 h1 hs'⟩

/-- The two last scalings agree: a count over sixteen, times an eighth, is the count times `1/128`. -/
theorem scale_count (n : ℤ) :
    ((1 / 8 : ℝ) : EReal) * Ideal.div ((n : ℝ) : EReal) ((16 : ℝ) : EReal) = ((n : ℝ) : EReal) * ((1 / 128 : ℝ) : EReal) := by
  rw [Ideal.div_coe (by norm_num), ← EReal.coe_mul, ← EReal.coe_mul, ← EReal.coe_mul]
  congr 1
  ring

end Cert.Proof.Adc

end
-- ==== Proof.Reading.lean ====
/-
  The three programs read index by index at exact values: what the precondition says of the thresholds, what the kernel's
  code of an element is, and what the reference's result is at an index.
-/
module

public import proofs.«01_k».proof.Proof.Count
public import proofs.«01_k».proof.Proof.Values
public import proofs.«01_k».proof.Proof.Gen.Pre_uniform_thresholds
public import proofs.«01_k».proof.Proof.Gen.ReferenceIdeal
public import Idealize.ShloMosaic.Lib.IndicatorCount
public import Idealize.ShloMosaic.Lib.Pipeline.Value

@[expose] public section

noncomputable section

namespace Cert.Proof.Adc

open Cert.KernelIdeal Cert.KernelIdeal.Gen
open Idealize.ShloMosaic

/-- The thresholds by number. -/
def level (A : FVec Ideal S127 .f32) : Fin 127 → EReal := fun k => A fun | 0 => k

/-! ## The precondition -/

/-- A number of at most 127, as the programs make it: one more than a counter's word. -/
theorem toInt_succ (k : ℕ) (h : k < 127) : (IntOp.addi (BitVec.ofNat 32 k) 1#32).toInt = ((k + 1 : ℕ) : ℤ) := by
  rw [show IntOp.addi (BitVec.ofNat 32 k) 1#32 = BitVec.ofNat 32 (k + 1) from (BitVec.ofNat_add k 1).symm]
  exact toInt_small _ (by omega)

open Cert.Pre_uniform_thresholds.Facts in
/-- Where the precondition holds the thresholds are uniform. -/
theorem uniform_of_pre (x : FVec Ideal S1x2048x768 .f32) (A : FVec Ideal S127 .f32)
    (h : Cert.Pre_uniform_thresholds.fn (F := Ideal) x A = fun _ => 1#1) : Uniform (level A) := by
  have first : ∀ c : S127.Idx, (c 0).val = 0 → A c = level A 0 := fun c hc => congrArg A (funext fun | 0 => Fin.ext hc)
  have step : ∀ i : S_.Idx, shapeCast S_ (extractStridedSlice Cert.Pre_uniform_thresholds.S1 ![0] A slices_S127_S1_0) shapeCasts_S1_S_ i = level A 0 := fun i =>
    first _ (by
      have := (Shape.reshapeEquiv shapeCasts_S1_S_ i 0).isLt
      change 0 + (Shape.reshapeEquiv shapeCasts_S1_S_ i 0).val = 0
      change (Shape.reshapeEquiv shapeCasts_S1_S_ i 0).val < 1 at this
      omega)
  have hk : ∀ k : Fin 127, level A k = (((k.val + 1 : ℕ) : ℝ) : EReal) * level A 0 ∧ ((127 / 16 : ℝ) : EReal) < ((128 : ℝ) : EReal) * level A 0 := fun k => by
    have e : Ideal.cmp .oeq (level A k) (((IntOp.addi (BitVec.ofNat 32 k.val) 1#32).toInt : ℝ)
          * shapeCast S_ (extractStridedSlice Cert.Pre_uniform_thresholds.S1 ![0] A slices_S127_S1_0) shapeCasts_S1_S_ fun a => _)
        &&& Ideal.cmp .ogt (Ideal.ofBits .f32 0x43000000#32
          * shapeCast S_ (extractStridedSlice Cert.Pre_uniform_thresholds.S1 ![0] A slices_S127_S1_0) shapeCasts_S1_S_ fun a => _)
            (Ideal.ofBits .f32 0x40FE0000#32) = 1#1 := congrFun h (fun | 0 => k)
    have e' := e
    rw [step, toInt_succ _ k.isLt, ofBits_128, ofBits_top] at e'
    simp only [Ideal.cmp] at e'
    have both : ∀ p q : Bool, BitVec.ofBool p &&& BitVec.ofBool q = 1#1 → p = true ∧ q = true := by decide
    obtain ⟨h1, h2⟩ := both _ _ e'
    refine ⟨?_, of_decide_eq_true h2⟩
    have h1' := of_decide_eq_true h1
    rw [h1']; norm_cast
  exact ⟨fun k => (hk k).1, (hk 0).2⟩

/-! ## The kernel -/

/-- The scale of a lane. -/
theorem scales_apply (A : FVec Ideal S127 .f32) (n : ℕ) :
    scales A (lane n) = scale (level A) ⟨n % 16, lt_trans (Nat.mod_lt _ (by decide)) (by decide)⟩ := by
  have hn : n % 16 < 16 := Nat.mod_lt _ (by decide)
  have e : scales A (lane n) = Ideal.div (((IntOp.addi (BitVec.ofNat 32 (0 * 16 + n % 16)) 1#32).toInt : ℝ) : EReal) (firstThresholds A (lane n)) := by
    unfold scales k0_pay1
    simp only [shapeCast_self]
    rfl
  rw [e, zero_mul, zero_add, toInt_succ _ (by omega)]
  rfl

/-- The kernel's code of an element, at any lane: the number of thresholds its activation reaches, times `1/128`. -/
theorem code_eq (A : FVec Ideal S127 .f32) (h : Uniform (level A)) (n : ℕ) (x : EReal) :
    code (F := Ideal) (scales A (lane n)) x = (((reached (level A) (act x) : ℤ) : ℝ) : EReal) * ((1 / 128 : ℝ) : EReal) := by
  have e : code (F := Ideal) (scales A (lane n)) x
      = (((Ideal.fptosi 32 (min (max x (Ideal.ofBits .f32 0x00000000#32)) (Ideal.ofBits .f32 0x40FE0000#32) * scales A (lane n))).toInt : ℝ) : EReal)
        * Ideal.ofBits .f32 0x3C000000#32 := rfl
  rw [e, ofBits_top, ofBits_unit, Ideal.ofBits_zero_f32, scales_apply]
  congr 3
  exact (count_eq h _ x).1

/-! ## The reference -/

section Reference
open Cert.ReferenceIdeal.Facts₀

/-- The reference's comparisons of the clipped input with the thresholds. -/
def compared (x : FVec Ideal S1x2048x768 .f32) (A : FVec Ideal S127 .f32) : IVec Cert.ReferenceIdeal.S1x2048x768x127 1 :=
  cmpf .oge
    (broadcastInDim Cert.ReferenceIdeal.S1x2048x768x127 ![0, 1, 2, 3] bcast_S1x2048x768x1_S1x2048x768x127_0_1_2_3
      (broadcastInDim Cert.ReferenceIdeal.S1x2048x768x1 ![0, 1, 2] bcast_S1x2048x768_S1x2048x768x1_0_1_2
        (minimumf (broadcastInDim S1x2048x768 ![] bcast_S_S1x2048x768 (id (constant (F := Ideal) S_ .f32 0x40FE0000#32)))
          (maximumf (broadcastInDim S1x2048x768 ![] bcast_S_S1x2048x768 (id (constant (F := Ideal) S_ .f32 0x00000000#32))) x))))
    (broadcastInDim Cert.ReferenceIdeal.S1x2048x768x127 ![0, 1, 2, 3] bcast_S1x1x1x127_S1x2048x768x127_0_1_2_3
      (broadcastInDim Cert.ReferenceIdeal.S1x1x1x127 ![3] bcast_S127_S1x1x1x127_3 A))

/-- The reference's result as a function of its arguments. -/
def expected (x : FVec Ideal S1x2048x768 .f32) (A : FVec Ideal S127 .f32) : FVec Ideal S1x2048x768 .f32 :=
  mulf (broadcastInDim S1x2048x768 ![] bcast_S_S1x2048x768 (constant (F := Ideal) S_ .f32 0x3E000000#32))
    (Host.divf (sitofp .f32 (Host.reduce IntOp.addi (extui 32 (compared x A) natLt_1_32) (constantI S_ 32 0#32)
        reducesTo_S1x2048x768x127_S1x2048x768_d3 h_S_))
      (broadcastInDim S1x2048x768 ![] bcast_S_S1x2048x768 (constant (F := Ideal) S_ .f32 0x41800000#32)))

/-- A comparison at an index: is threshold `k` at most the activation. -/
theorem compared_apply (x : FVec Ideal S1x2048x768 .f32) (A : FVec Ideal S127 .f32) (j : S1x2048x768.Idx)
    (i : Cert.ReferenceIdeal.S1x2048x768x127.Idx) (hi : ∀ b : Fin 3, (i (Fin.castLE (by decide) b)).val = (j b).val) :
    compared x A i = 1#1 ↔ level A (i 3) ≤ act (x j) := by
  have ix : ∀ y : FVec Ideal S1x2048x768 .f32, broadcastInDim Cert.ReferenceIdeal.S1x2048x768x127 ![0, 1, 2, 3] bcast_S1x2048x768x1_S1x2048x768x127_0_1_2_3
      (broadcastInDim Cert.ReferenceIdeal.S1x2048x768x1 ![0, 1, 2] bcast_S1x2048x768_S1x2048x768x1_0_1_2 y) i = y j := fun y => by
    unfold broadcastInDim
    refine congrArg y (funext fun a => Fin.ext ?_)
    fin_cases a
    · have h0 : (j 0).val < 1 := (j 0).isLt
      show 0 = (j 0).val
      omega
    · exact hi 1
    · exact hi 2
  have ex : broadcastInDim Cert.ReferenceIdeal.S1x2048x768x127 ![0, 1, 2, 3] bcast_S1x2048x768x1_S1x2048x768x127_0_1_2_3
      (broadcastInDim Cert.ReferenceIdeal.S1x2048x768x1 ![0, 1, 2] bcast_S1x2048x768_S1x2048x768x1_0_1_2
        (minimumf (broadcastInDim S1x2048x768 ![] bcast_S_S1x2048x768 (id (constant (F := Ideal) S_ .f32 0x40FE0000#32)))
          (maximumf (broadcastInDim S1x2048x768 ![] bcast_S_S1x2048x768 (id (constant (F := Ideal) S_ .f32 0x00000000#32))) x))) i = act (x j) := by
    refine (ix _).trans ?_
    unfold act
    rw [← ofBits_top, ← Ideal.ofBits_zero_f32, min_comm, max_comm]
    rfl
  have eA : broadcastInDim Cert.ReferenceIdeal.S1x2048x768x127 ![0, 1, 2, 3] bcast_S1x1x1x127_S1x2048x768x127_0_1_2_3
      (broadcastInDim Cert.ReferenceIdeal.S1x1x1x127 ![3] bcast_S127_S1x1x1x127_3 A) i = level A (i 3) := by
    unfold broadcastInDim
    exact congrArg A (funext fun | 0 => Fin.ext rfl)
  unfold compared cmpf
  rw [ex, eA]
  show BitVec.ofBool (decide (level A (i 3) ≤ act (x j))) = 1#1 ↔ _
  by_cases hle : level A (i 3) ≤ act (x j) <;> simp [hle]

/-- The reference's result at an index: an eighth of a sixteenth of the number of thresholds the activation reaches. -/
theorem expected_apply (x : FVec Ideal S1x2048x768 .f32) (A : FVec Ideal S127 .f32) (j : S1x2048x768.Idx)
    (h : reached (level A) (act (x j)) ≤ 127) :
    expected x A j = ((1 / 8 : ℝ) : EReal) * Ideal.div (((reached (level A) (act (x j)) : ℤ) : ℝ) : EReal) ((16 : ℝ) : EReal) := by
  have hr : Cert.ReferenceIdeal.S1x2048x768x127.Reduces [3] S1x2048x768 := by decide
  have hc : Host.reduce IntOp.addi (extui 32 (compared x A) natLt_1_32) (constantI S_ 32 0#32)
      reducesTo_S1x2048x768x127_S1x2048x768_d3 h_S_ j = BitVec.ofNat 32 (reached (level A) (act (x j))) := by
    rw [Host.reduce_eq_fold_single _ _ _ _ hr]
    refine (IndicatorCount.fold_addi_setWidth_eq_card (fun k => compared x A (hr.lift j k)) Finset.univ).trans ?_
    unfold reached
    have key : ∀ k : Fin 127, compared x A (hr.lift j k) = 1#1 ↔ level A k ≤ act (x j) := fun k =>
      compared_apply x A j (hr.lift j k) fun b => by fin_cases b <;> rfl
    refine congrArg (fun S : Finset (Fin 127) => BitVec.ofNat 32 S.card) (Finset.ext fun k => ?_)
    exact (Finset.mem_filter (p := fun k : Fin 127 => compared x A (hr.lift j k) = 1#1)).trans
      ((and_congr_right fun _ => key k).trans (Finset.mem_filter (p := fun k : Fin 127 => level A k ≤ act (x j))).symm)
  unfold expected
  have e : ∀ c : IVec S1x2048x768 32, mulf (broadcastInDim S1x2048x768 ![] bcast_S_S1x2048x768 (constant (F := Ideal) S_ .f32 0x3E000000#32))
      (Host.divf (sitofp .f32 c) (broadcastInDim S1x2048x768 ![] bcast_S_S1x2048x768 (constant (F := Ideal) S_ .f32 0x41800000#32))) j
      = Ideal.ofBits .f32 0x3E000000#32 * Ideal.div (((c j).toInt : ℝ) : EReal) (Ideal.ofBits .f32 0x41800000#32) := fun _ => rfl
  rw [e, hc, toInt_small _ h, ofBits_eighth, ofBits_sixteen]

end Reference

end Cert.Proof.Adc

end
-- ==== Proof.Equal.lean ====
/-
  The kernel's result is the reference's: laid out flat, coded at its lanes and laid out again, each element of the input
  has become the count of the thresholds it reaches, times `1/128`.
-/
module

public import proofs.«01_k».proof.Proof.Launch
public import proofs.«01_k».proof.Proof.Reading

@[expose] public section

noncomputable section

namespace Cert.Proof.Adc

open Cert.KernelIdeal Cert.KernelIdeal.Gen
open Idealize.ShloMosaic

/-- Where the thresholds are uniform, the flat codes laid out again are the reference's result. -/
theorem codes_eq (x : FVec Ideal S1x2048x768 .f32) (A : FVec Ideal S127 .f32) (h : Uniform (level A)) :
    shapeCast S1x2048x768 (codes (scales A) (shapeCast S1572864 x shapeCasts_S1x2048x768_S1572864)) shapeCasts_S1572864_S1x2048x768
      = expected x A := by
  funext j
  have hb := congrFun (shapeCast_shapeCast x shapeCasts_S1x2048x768_S1572864 shapeCasts_S1572864_S1x2048x768) j
  have hx : shapeCast S1572864 x shapeCasts_S1x2048x768_S1572864 (Shape.reshapeEquiv shapeCasts_S1572864_S1x2048x768 j) = x j := hb
  change code (scales A (lane _)) (shapeCast S1572864 x shapeCasts_S1x2048x768_S1572864 (Shape.reshapeEquiv shapeCasts_S1572864_S1x2048x768 j)) = _
  rw [hx, code_eq A h, expected_apply x A j (count_eq h 0 (x j)).2, scale_count]

/-- So the kernel leaves the reference's result, on a launch memory of which the precondition holds. -/
theorem result_eq (m : (ℓ : Loc nD τ sig) → Buf (Elt Ideal) ℓ) (d : Dev nD)
    (h : Cert.Pre_uniform_thresholds.fn (F := Ideal) (m (argLoc d)) (m (adcLoc d)) = fun _ => 1#1) :
    result m d = expected (m (argLoc d)) (m (adcLoc d)) :=
  codes_eq (m (argLoc d)) (m (adcLoc d)) (uniform_of_pre _ _ h)

end Cert.Proof.Adc

end
-- ==== Proof.lean ====
/-
  The claims, assembled. The frames of the kernel at machine words and at exact values and of the reference come from
  their runs, and the value claim from the kernel's result being the reference's (Proof/Equal.lean).
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_uniform_thresholds
public import proofs.«01_k».proof.Proof.KernelRun
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem

/-- The idealized kernel's frame: it ends with its arguments unchanged and every counter at zero. -/
theorem frame_kernelIdeal : Cert.quiescent_KernelIdeal (hKernelIdeal := Cert.KernelIdeal.Gen.facts) := fun m g _ =>
  (θ_run _ _ _).mono (fun _ h => ⟨fun c => ⟨(h.1 c).1, (h.1 c).2.1⟩, h.2⟩) (Adc.run_main (F := Ideal) m g)

/-- The reference's frame. -/
theorem frame_referenceIdeal : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run (F := Ideal) m g)

/-- The value claim: where the thresholds are uniform, kernel and reference end with one result. -/
theorem value : Cert.algebraic_KernelIdeal_ReferenceIdeal_pre_uniform_thresholds (hKernelIdeal := Cert.KernelIdeal.Gen.facts)
    (hReferenceIdeal := Cert.ReferenceIdeal.Gen.facts) (hPre_uniform_thresholds := Cert.Pre_uniform_thresholds.Gen.facts) :=
  fun m g m' g' hpre hagree => ⟨Adc.result m,
    (θ_run _ _ _).mono (fun _ h c => ⟨(h.1 c).2.2, (h.1 c).1, (h.1 c).2.1⟩) (Adc.run_main (F := Ideal) m g),
    (θ_run _ _ _).mono (fun _ h c => ⟨(h c).1.trans (by
        rw [(hagree c).1, (hagree c).2]
        exact (Adc.result_eq m c (hpre c)).symm), (h c).2⟩) (Cert.ReferenceIdeal.Value.run (F := Ideal) m' g')⟩

/-- Every claim of the certificate. -/
theorem claim : Cert.Claim := ⟨Cert.Kernel.Gen.facts, Cert.KernelIdeal.Gen.facts, Cert.ReferenceIdeal.Gen.facts, Cert.Pre_uniform_thresholds.Gen.facts,
  Adc.frame_kernel, frame_kernelIdeal, fun m g _ => frame_kernelIdeal m g trivial,
  frame_referenceIdeal, fun m g _ => frame_referenceIdeal m g trivial, trivial, value⟩

end Cert.Proof

end
